-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x64 : Shape := ⟨2, ![2048, 64]⟩
abbrev S64 : Shape := ⟨1, ![64]⟩
abbrev S_ : Shape := ⟨0, ![]⟩

class Facts : Prop where
  bcast_S_S4x2048x2048 : S_.BroadcastsInDim S4x2048x2048 (![] : Fin 0 → Fin S4x2048x2048.rank)
  bcast_S_S2048x64 : S_.BroadcastsInDim S2048x64 (![] : Fin 0 → Fin S2048x64.rank)
  bcast_S_S64 : S_.BroadcastsInDim S64 (![] : Fin 0 → Fin S64.rank)

variable [Facts]

def fn {F : FTy → Type} [FloatOps F] (main_arg0 : FVec F S4x2048x2048 .f32) (main_arg1 : FVec F S2048x64 .f32) (main_arg2 : FVec F S64 .f32) (main_arg3 : IVec S_ 32) (main_arg4 : IVec S_ 32) : IVec S4x2048x2048 1 × IVec S2048x64 1 × IVec S64 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S2048x64 .f32 := Host.absf main_arg1
  let main_cst_0 : FVec F S_ .f32 := constant S_ .f32 0x7F800000#32
  let main_v4 : FVec F S2048x64 .f32 := broadcastInDim S2048x64 ![] bcast_S_S2048x64 main_cst_0
  let main_v5 : IVec S2048x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S4x2048x2048 : Shape := ⟨3, ![4, 2048, 2048]⟩
abbrev S2048x64 : Shape := ⟨2, ![2048, 64]⟩
abbrev S64 : Shape := ⟨1, ![64]⟩
abbrev S_ : Shape := ⟨0, ![]⟩
abbrev S1x64 : Shape := ⟨2, ![1, 64]⟩
abbrev S4x64x2048 : Shape := ⟨3, ![4, 64, 2048]⟩
abbrev S1x1 : Shape := ⟨2, ![1, 1]⟩
abbrev S1x1024x2048 : Shape := ⟨3, ![1, 1024, 2048]⟩
abbrev S1x64x1024 : Shape := ⟨3, ![1, 64, 1024]⟩
abbrev S1024x2048 : Shape := ⟨2, ![1024, 2048]⟩
abbrev S1024x64 : Shape := ⟨2, ![1024, 64]⟩
abbrev S64x1024 : Shape := ⟨2, ![64, 1024]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S4x2048x64 : Shape := ⟨3, ![4, 2048, 64]⟩

abbrev nBuf : Space → Nat
  | .hbm => 13
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048x64, .f32⟩
  | .hbm, ⟨2, _⟩ => ⟨S64, .f32⟩
  | .hbm, ⟨3, _⟩ => ⟨S_, .i32⟩
  | .hbm, ⟨4, _⟩ => ⟨S_, .i32⟩
  | .hbm, ⟨5, _⟩ => ⟨S2048x64, .bf16⟩
  | .hbm, ⟨6, _⟩ => ⟨S1x64, .f32⟩
  | .hbm, ⟨7, _⟩ => ⟨S4x64x2048, .f32⟩
  | .hbm, ⟨8, _⟩ => ⟨S4x64x2048, .f32⟩
  | .hbm, ⟨9, _⟩ => ⟨S1x1, .f32⟩
  | .hbm, ⟨10, _⟩ => ⟨S4x2048x64, .f32⟩
  | .hbm, ⟨11, _⟩ => ⟨S4x2048x64, .f32⟩
  | .hbm, ⟨12, _⟩ => ⟨S_, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x64, .bf16⟩
  | .local _ .vmem, ⟨3, _⟩ => ⟨S1x64, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x2048x2048 : Shape := ⟨3, ![4, 2048, 2048]⟩
abbrev S2048x64 : Shape := ⟨2, ![2048, 64]⟩
abbrev S64 : Shape := ⟨1, ![64]⟩
abbrev S_ : Shape := ⟨0, ![]⟩
abbrev S4x2048x64 : Shape := ⟨3, ![4, 2048, 64]⟩
abbrev S1x1x64 : Shape := ⟨3, ![1, 1, 64]⟩
abbrev S4x2048 : Shape := ⟨2, ![4, 2048]⟩
abbrev S4x2048x1 : Shape := ⟨3, ![4, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x64, .f32⟩
  | .hbm, ⟨2, _⟩ => ⟨S64, .f32⟩
  | .hbm, ⟨3, _⟩ => ⟨S_, .i32⟩
  | .hbm, ⟨4, _⟩ => ⟨S_, .i32⟩
  | .hbm, ⟨5, _⟩ => ⟨S4x2048x64, .f32⟩
  | .hbm, ⟨6, _⟩ => ⟨S1x1x64, .f32⟩
  | .hbm, ⟨7, _⟩ => ⟨S4x2048x64, .f32⟩
  | .hbm, ⟨8, _⟩ => ⟨S4x2048x64, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S4x2048x64, .f32⟩
  | .hbm, ⟨16, _⟩ => ⟨S4x2048x64, .f32⟩
  | .hbm, ⟨17, _⟩ => ⟨S4x2048x64, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S4x2048x64, .f32⟩
  | .hbm, ⟨22, _⟩ => ⟨S4x2048x64, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x64, .f32⟩
  | .hbm, ⟨35, _⟩ => ⟨S4x2048x64, .f32⟩
  | .hbm, ⟨36, _⟩ => ⟨S4x2048x64, .f32⟩
  | .hbm, ⟨37, _⟩ => ⟨S_, .f32⟩
  | .hbm, ⟨38, _⟩ => ⟨S4x2048, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.Pipeline.ValueKit

/-! The router, as formulas over the argument arrays: what each result is to hold. -/

@[expose] public section

noncomputable section

open Idealize.ShloMosaic

namespace Cert.Router

/-- The tokens: four groups of 2048 tokens, each of 2048 numbers. -/
abbrev Tokens := FVec Ideal ⟨3, ![4, 2048, 2048]⟩ .f32
/-- The router's weights: one column per expert. -/
abbrev Weights := FVec Ideal ⟨2, ![2048, 64]⟩ .f32
/-- The router's bias: one number per expert. -/
abbrev Bias := FVec Ideal ⟨1, ![64]⟩ .f32

variable (X : Tokens) (W : Weights) (b : Bias)

/-- The logit of expert `e` for token `t` of group `g`. -/
def logit (g : Fin 4) (t : Fin 2048) (e : Fin 64) : EReal :=
  ∑ k : Fin 2048, X (ix3 g t k) * W (ix2 k e) + b (ix1 e)

/-- The sum over the experts of the exponentials of a token's logits. -/
def sumExp (g : Fin 4) (t : Fin 2048) : EReal := ∑ e : Fin 64, Ideal.exp (logit X W b g t e)

/-- The probability of expert `e` for a token. -/
def prob (g : Fin 4) (t : Fin 2048) (e : Fin 64) : EReal :=
  Ideal.div (Ideal.exp (logit X W b g t e)) (sumExp X W b g t)

/-- A token's part of the loss: the square of the logarithm of its sum of exponentials. -/
def tokenLoss (g : Fin 4) (t : Fin 2048) : EReal := Ideal.log (sumExp X W b g t) * Ideal.log (sumExp X W b g t)

/-- The sum of the tokens' parts over all groups. -/
def totalLoss : EReal := ∑ g : Fin 4, ∑ t : Fin 2048, tokenLoss X W b g t

/-- The part of the tokens of the `n`-th block of 1024: two blocks to a group. -/
def blockLoss (n : ℕ) : EReal :=
  ∑ r : Fin 1024, tokenLoss X W b ⟨n / 2 % 4, by omega⟩ ⟨n % 2 * 1024 + r.val, by omega⟩

/-- The eight blocks hold all tokens. -/
theorem sum_blockLoss : ∑ n ∈ Finset.range 8, blockLoss X W b n = totalLoss X W b := by
  rw [Finset.sum_range]
  unfold blockLoss totalLoss
  refine Fin.sum_points_lanes_congr 2 fun t r ha hl => ?_
  congr 2
  exact Nat.mod_eq_of_lt ha

end Cert.Router

end
-- ==== Proof.Real.lean ====
module

public import Idealize.ShloMosaic.PureOps.Ideal.Laws
public import Idealize.ShloMosaic.Lib.Pointwise

/-! Facts about exponentials, logarithms and maxima of finitely many real numbers. -/

@[expose] public section

noncomputable section

open Idealize.ShloMosaic

namespace Cert.Softmax

/-- A value is finite when it is a real number. -/
def IsReal (x : EReal) : Prop := ∃ r : ℝ, x = (r : EReal)

/-- The absolute value of a number lies below infinity exactly when the number is finite; only this direction is needed. -/
theorem finite_of_abs_lt {x : EReal} (h : max x (-x) < ⊤) : IsReal x := by
  induction x with
  | bot => simp at h
  | top => simp at h
  | coe r => exact ⟨r, rfl⟩

theorem finite_add {x y : EReal} : IsReal x → IsReal y → IsReal (x + y) := by
  rintro ⟨a, rfl⟩ ⟨b, rfl⟩; exact ⟨a + b, by push_cast; rfl⟩

theorem finite_mul {x y : EReal} : IsReal x → IsReal y → IsReal (x * y) := by
  rintro ⟨a, rfl⟩ ⟨b, rfl⟩; exact ⟨a * b, by push_cast; rfl⟩

/-- A finite sum of reals, taken among the extended reals, is the real sum. -/
theorem coe_sum {n : ℕ} (f : Fin n → ℝ) : (∑ k, ((f k : ℝ) : EReal)) = ((∑ k, f k : ℝ) : EReal) :=
  (map_sum (⟨⟨(fun r : ℝ => (r : EReal)), rfl⟩, fun a b => EReal.coe_add a b⟩ : ℝ →+ EReal) f Finset.univ).symm

theorem finite_sum {n : ℕ} {f : Fin n → EReal} (h : ∀ k, IsReal (f k)) : IsReal (∑ k, f k) := by
  choose r hr using h
  exact ⟨∑ k, r k, by simp only [hr]; exact coe_sum r⟩

/-- The maximum of finitely many reals, at least one, is one of them. -/
theorem finite_max {n : ℕ} {f : Fin (n + 1) → EReal} (h : ∀ k, IsReal (f k)) :
    IsReal (Finset.univ.fold max ⊥ f) := by
  obtain ⟨k, -, hk⟩ := Finset.exists_mem_eq_sup (Finset.univ : Finset (Fin (n + 1))) Finset.univ_nonempty f
  have : Finset.univ.fold max ⊥ f = Finset.univ.sup f := rfl
  rw [this, hk]
  exact h k

section

variable {n : ℕ} (l : Fin (n + 1) → ℝ) (M : ℝ)

theorem sum_exp (f : Fin (n + 1) → ℝ) : (∑ e, Ideal.exp ((f e : ℝ) : EReal)) = ((∑ e, Real.exp (f e) : ℝ) : EReal) := by
  simp only [Ideal.exp_coe]; exact coe_sum _

theorem sum_exp_pos (f : Fin (n + 1) → ℝ) : 0 < ∑ e, Real.exp (f e) :=
  Finset.sum_pos (fun e _ => Real.exp_pos _) Finset.univ_nonempty

/-- The logarithm of a positive number is the real logarithm. -/
theorem log_of_pos {y : ℝ} (h : 0 < y) : Ideal.log (y : EReal) = (Real.log y : EReal) := by
  rw [Ideal.log_coe, if_neg h.not_ge]

/-- Taking a common number from every exponent divides the sum of exponentials by its exponential. -/
theorem sum_exp_shift : ∑ e, Real.exp (l e - M) = (∑ e, Real.exp (l e)) / Real.exp M := by
  rw [Finset.sum_div]; exact Finset.sum_congr rfl fun e _ => Real.exp_sub _ _

/-- A softmax does not change when a common number is taken from every exponent. -/
theorem softmax_shift (k : Fin (n + 1)) :
    Ideal.div (Ideal.exp ((l k : EReal) - (M : EReal))) (∑ e, Ideal.exp ((l e : EReal) - (M : EReal)))
      = Ideal.div (Ideal.exp (l k : EReal)) (∑ e, Ideal.exp (l e : EReal)) := by
  simp only [← EReal.coe_sub]
  rw [sum_exp (fun e => l e - M), sum_exp l, Ideal.div_coe (sum_exp_pos _).ne', Ideal.div_coe (sum_exp_pos _).ne',
    Ideal.exp_coe, Ideal.exp_coe, ← EReal.coe_mul, ← EReal.coe_mul, sum_exp_shift, Real.exp_sub]
  congr 1
  have := (Real.exp_pos M).ne'
  have := (sum_exp_pos l).ne'
  field_simp

/-- The logarithm of a sum of exponentials, computed after taking a common number from every exponent and added back. -/
theorem logsumexp_shift :
    Ideal.log (∑ e, Ideal.exp ((l e : EReal) - (M : EReal))) + (M : EReal) = Ideal.log (∑ e, Ideal.exp (l e : EReal)) := by
  simp only [← EReal.coe_sub]
  rw [sum_exp (fun e => l e - M), sum_exp l, log_of_pos (sum_exp_pos _), log_of_pos (sum_exp_pos _), ← EReal.coe_add,
    sum_exp_shift, Real.log_div (sum_exp_pos l).ne' (Real.exp_pos M).ne', Real.log_exp]
  congr 1; ring

end

end Cert.Softmax

end
-- ==== Proof.RefValue.lean ====
module

public import proofs.«01_k».proof.Proof.Gen.ReferenceIdeal.Read
public import proofs.«01_k».proof.Proof.Spec
public import proofs.«01_k».proof.Proof.Real
public import Idealize.ShloMosaic.Lib.Pointwise

/-! The reference's three results, as the router's formulas, when the arguments are finite. -/

@[expose] public section

set_option maxRecDepth 16384

noncomputable section

open Idealize.ShloMosaic

namespace Cert.ReferenceIdeal.RefValue

open Cert.ReferenceIdeal Cert.ReferenceIdeal.Read Cert.Router Cert.Softmax

/-- The bit pattern of minus infinity. -/
theorem bits_bot : Ideal.ofBits .f32 0xFF800000#32 = ⊥ := by simp [Ideal.ofBits, Ideal.ieee]

/-- The bit pattern of infinity. -/
theorem bits_top : Ideal.ofBits .f32 0x7F800000#32 = ⊤ := by simp [Ideal.ofBits, Ideal.ieee]

/-- The number of tokens, as a constant. -/
theorem bits_count : Ideal.ofBits .f32 0x46000000#32 = ((8192 : ℝ) : EReal) := by
  simp [Ideal.ofBits, Ideal.ieee]
  rw [← EReal.coe_mul]
  norm_num

/-- One over the number of tokens, as a constant. -/
theorem bits_inv_count : Ideal.ofBits .f32 0x39000000#32 = ((1 / 8192 : ℝ) : EReal) := by
  simp [Ideal.ofBits, Ideal.ieee]
  rw [← EReal.coe_mul]
  norm_num

variable (X : Tokens) (W : Weights) (b : Bias)

/-- The reference's logit is the formula's. -/
theorem logit_at (g : Fin 4) (t : Fin 2048) (e : Fin 64) : val_main_v3 (F := Ideal) X W b (ix3 g t e) = logit X W b g t e := by
  pointwise [val_main_v3, val_main_v0, val_main_v1, val_main_v2]
  rfl

/-- The greatest logit of a token. -/
def top (g : Fin 4) (t : Fin 2048) : EReal := Finset.univ.fold max ⊥ fun e : Fin 64 => logit X W b g t e

/-- What the softmax takes from a token's logits is the greatest of them. -/
theorem max_at (g : Fin 4) (t : Fin 2048) : val_main_v6 (F := Ideal) X W b (ix2 g t) = top X W b g t := by
  rw [val_main_v6_apply]
  pointwise [val_main_v4, val_main_v5, val_main_cst, val_main_cst_0, logit_at, bits_bot]
  exact max_eq_right bot_le

/-- The loss looks for the same greatest logit. -/
theorem shift_at (g : Fin 4) (t : Fin 2048) : val_main_v15 (F := Ideal) X W b (ix2 g t) = top X W b g t := by
  pointwise [val_main_v15, val_main_cst_2, logit_at, bits_bot]
  rfl

theorem exp_at (g : Fin 4) (t : Fin 2048) (e : Fin 64) :
    val_main_v10 (F := Ideal) X W b (ix3 g t e) = Ideal.exp (logit X W b g t e - top X W b g t) := by
  pointwise [val_main_v10, val_main_v9, val_main_v8, val_main_v7, logit_at, max_at]

theorem prob_at (g : Fin 4) (t : Fin 2048) (e : Fin 64) :
    val_main_v14 (F := Ideal) X W b (ix3 g t e)
      = Ideal.div (Ideal.exp (logit X W b g t e - top X W b g t)) (∑ e, Ideal.exp (logit X W b g t e - top X W b g t)) := by
  pointwise [val_main_v14, val_main_v13, val_main_v12, val_main_v11, val_main_cst_1, exp_at]

/-- A finite greatest logit passes the guard that replaces an infinite one by zero. -/
theorem guard_at (g : Fin 4) (t : Fin 2048) (h : IsReal (top X W b g t)) :
    val_main_v19 (F := Ideal) X W b (ix2 g t) = top X W b g t := by
  rw [val_main_v19_apply, val_main_v18_apply, val_main_v16_apply, shift_at]
  obtain ⟨r, hr⟩ := h
  pointwise [val_main_v17, val_main_cst_3, bits_top]
  rw [hr]
  refine if_pos (max_lt (EReal.coe_lt_top r) ?_)
  rw [← EReal.coe_neg]
  exact EReal.coe_lt_top _

theorem square_at (g : Fin 4) (t : Fin 2048) (h : IsReal (top X W b g t)) :
    val_main_v27 (F := Ideal) X W b (ix2 g t)
      = (Ideal.log (∑ e, Ideal.exp (logit X W b g t e - top X W b g t)) + top X W b g t)
        * (Ideal.log (∑ e, Ideal.exp (logit X W b g t e - top X W b g t)) + top X W b g t) := by
  have hg := guard_at X W b g t h
  pointwise [val_main_v27, val_main_v26, val_main_v25, val_main_v24, val_main_v23, val_main_v22, val_main_v21, val_main_v20, val_main_cst_5, logit_at, hg]

/-- All elements of the arguments are finite. -/
structure Finite : Prop where
  X : ∀ i, IsReal (X i)
  W : ∀ i, IsReal (W i)
  b : ∀ i, IsReal (b i)

variable {X W b}

theorem logit_real (h : Finite X W b) (g : Fin 4) (t : Fin 2048) (e : Fin 64) : IsReal (logit X W b g t e) :=
  finite_add (finite_sum fun k => finite_mul (h.X _) (h.W _)) (h.b _)

theorem top_real (h : Finite X W b) (g : Fin 4) (t : Fin 2048) : IsReal (top X W b g t) :=
  finite_max fun e => logit_real h g t e

/-- The reference's probability is the formula's: the number it takes from every logit does not matter. -/
theorem ref_prob (h : Finite X W b) (g : Fin 4) (t : Fin 2048) (e : Fin 64) :
    val_main_v14 (F := Ideal) X W b (ix3 g t e) = prob X W b g t e := by
  rw [prob_at]
  unfold prob sumExp
  choose l hl using logit_real h g t
  obtain ⟨M, hM⟩ := top_real h g t
  simp only [hl, hM]
  exact softmax_shift l M e

/-- A token's part of the reference's loss is the formula's. -/
theorem ref_square (h : Finite X W b) (g : Fin 4) (t : Fin 2048) :
    val_main_v27 (F := Ideal) X W b (ix2 g t) = tokenLoss X W b g t := by
  rw [square_at X W b g t (top_real h g t)]
  unfold tokenLoss sumExp
  choose l hl using logit_real h g t
  obtain ⟨M, hM⟩ := top_real h g t
  simp only [hl, hM]
  rw [logsumexp_shift l M]

/-- The reference's loss: the parts of all tokens, divided by the number of tokens. -/
theorem ref_loss (h : Finite X W b) (i : S_.Idx) :
    val_main_v29 (F := Ideal) X W b i = totalLoss X W b * Ideal.ofBits .f32 0x39000000#32 := by
  rw [val_main_v29_apply, val_main_v28_apply, val_main_cst_7_apply, val_main_cst_6_apply, sum_idx2]
  simp only [ref_square h]
  show Ideal.div (Ideal.ofBits .f32 0x00000000#32 + totalLoss X W b) (Ideal.ofBits .f32 0x46000000#32) = _
  rw [Ideal.ofBits_zero_f32, zero_add, bits_count, bits_inv_count, Ideal.div_coe (by norm_num)]

end Cert.ReferenceIdeal.RefValue

end
-- ==== Proof.PreFinite.lean ====
module

public import proofs.«01_k».proof.Defs
public import proofs.«01_k».proof.Proof.Gen.Pre_finite_inputs
public import proofs.«01_k».proof.Proof.RefValue

/-! What the precondition says: every element of the tokens, the weights and the bias is a real number. -/

@[expose] public section

noncomputable section

open Idealize.ShloMosaic

namespace Cert.PreFinite

open Cert.Pre_finite_inputs Cert.Router Cert.Softmax Cert.ReferenceIdeal.RefValue

/-- A comparison whose answer is one holds. -/
theorem holds_of_bit {p : Prop} [Decidable p] (h : BitVec.ofBool (decide p) = 1#1) : p := by
  by_contra hp
  simp [hp] at h

/-- The predicate's three answers, each all ones, make the arguments finite. -/
theorem finite_of_pre (X : Tokens) (W : Weights) (b : Bias) (r3 r4 : IVec S_ 32)
    (h0 : (fn (F := Ideal) X W b r3 r4).1 = fun _ => 1#1)
    (h1 : (fn (F := Ideal) X W b r3 r4).2.1 = fun _ => 1#1)
    (h2 : (fn (F := Ideal) X W b r3 r4).2.2 = fun _ => 1#1) : Finite X W b := by
  refine ⟨fun i => ?_, fun i => ?_, fun i => ?_⟩
  · have h := congrFun h0 i
    pointwise [fn, bits_top] at h
    exact finite_of_abs_lt (holds_of_bit h)
  · have h := congrFun h1 i
    pointwise [fn, bits_top] at h
    exact finite_of_abs_lt (holds_of_bit h)
  · have h := congrFun h2 i
    pointwise [fn, bits_top] at h
    exact finite_of_abs_lt (holds_of_bit h)

end Cert.PreFinite

end
-- ==== Proof.Payload.lean ====
module

public import proofs.«01_k».proof.Proof.Gen.KernelIdeal.Skeleton
public import Idealize.ShloMosaic.Lib.Pointwise

/-! What the kernel's body computes from one block of tokens, element by element. -/

@[expose] public section

set_option maxRecDepth 16384

noncomputable section

open Idealize.ShloMosaic Idealize.ShloMosaic.TcCoe Idealize.SL.Sem

namespace Cert.KernelIdeal.Payload

open Cert.KernelIdeal Cert.KernelIdeal.Gen

/-- The router logit of expert `e` for token `r` of a block: the token against the expert's weights, plus the bias. -/
def blkLogit (x : FVec Ideal S1x1024x2048 .f32) (w : FVec Ideal S2048x64 .bf16) (b : FVec Ideal S1x64 .f32)
    (r : Fin 1024) (e : Fin 64) : EReal :=
  ∑ k : Fin 2048, x (ix3 0 r k) * w (ix2 k e) + b (ix2 0 e)

/-- The transposed logits of a block. -/
theorem pay3_at (x : FVec Ideal S1x1024x2048 .f32) (w : FVec Ideal S2048x64 .bf16) (b : FVec Ideal S1x64 .f32)
    (e : Fin 64) (r : Fin 1024) : k0_pay3 (F := Ideal) x w b (ix2 e r) = blkLogit x w b r e := by
  pointwise [k0_pay3, blkLogit]

/-- What is stored as logits: expert first, token second. -/
theorem pay4_at (x : FVec Ideal S1x1024x2048 .f32) (w : FVec Ideal S2048x64 .bf16) (b : FVec Ideal S1x64 .f32)
    (e : Fin 64) (r : Fin 1024) : k0_pay4 (F := Ideal) x w b (ix3 0 e r) = blkLogit x w b r e := by
  pointwise [k0_pay4, pay3_at]

/-- What is stored as probabilities: the exponential of the logit over the sum of the token's exponentials. -/
theorem pay7_at (x : FVec Ideal S1x1024x2048 .f32) (w : FVec Ideal S2048x64 .bf16) (b : FVec Ideal S1x64 .f32)
    (e : Fin 64) (r : Fin 1024) : k0_pay7 (F := Ideal) x w b (ix3 0 e r)
      = Ideal.div (Ideal.exp (blkLogit x w b r e)) (∑ e' : Fin 64, Ideal.exp (blkLogit x w b r e')) := by
  pointwise [k0_pay7, k0_pay6, k0_pay5, pay3_at]

/-- The block's part of the loss: over its tokens, the square of the logarithm of the sum of exponentials. -/
theorem pay8_at (x : FVec Ideal S1x1024x2048 .f32) (w : FVec Ideal S2048x64 .bf16) (b : FVec Ideal S1x64 .f32)
    (i : S1x1.Idx) : k0_pay8 (F := Ideal) x w b i
      = ∑ r : Fin 1024, Ideal.log (∑ e : Fin 64, Ideal.exp (blkLogit x w b r e)) * Ideal.log (∑ e : Fin 64, Ideal.exp (blkLogit x w b r e)) := by
  pointwise [k0_pay8, k0_pay6, k0_pay5, pay3_at]
  exact Fin.sum_univ_one _

/-- A point adds its part to the running total. -/
theorem pay1_at (p a : FVec Ideal S1x1 .f32) (i : S1x1.Idx) : k0_pay1 (F := Ideal) p a i = a i + p i := by
  pointwise [k0_pay1]

/-- The last point scales the total by a constant. -/
theorem pay2_at (a : FVec Ideal S1x1 .f32) (i : S1x1.Idx) : k0_pay2 (F := Ideal) a i = a i * Ideal.ofBits .f32 0x39000000#32 := by
  pointwise [k0_pay2]

/-- The first point starts the total at zero. -/
theorem pay9_at (i : S1x1.Idx) : k0_pay9 (F := Ideal) i = 0 := by
  pointwise [k0_pay9]

end Cert.KernelIdeal.Payload
-- ==== Proof.Arrays.lean ====
module

public import proofs.«01_k».proof.Proof.Gen.KernelIdeal.Frame
public import proofs.«01_k».proof.Proof.Payload
public import proofs.«01_k».proof.Proof.Spec
public import Idealize.ShloMosaic.Lib.Pipeline.ValueKit
public import Idealize.ShloMosaic.Lib.Claim

/-! What the kernel's arrays hold once all grid points have run. -/

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Payload Cert.Router

variable (m : (ℓ : Loc nD τ sig) → Buf (Elt Ideal) ℓ)

/-- The tokens, weights and bias the program starts from. -/
abbrev argX (c : Dev nD) : Tokens := m ((c : Thread nD τ).loc main_arg0)
abbrev argW (c : Dev nD) : Weights := m ((c : Thread nD τ).loc main_arg1)
abbrev argB (c : Dev nD) : Bias := m ((c : Thread nD τ).loc main_arg2)

/-- The weights reach the kernel unchanged: the change of format is the identity on exact numbers. -/
theorem V_main_v0 (c : Dev nD) : V m c main_v0 = (truncf .bf16 (argW m c) bitsLt_bf16_f32 : FVec Ideal S2048x64 .bf16) := by
  show StableHlo.after hostOps0 (fun b => m (c, b)) (Proc.devRef .tc main_v0) = _
  after_results

/-- The bias reaches the kernel as one row. -/
theorem V_main_v1 (c : Dev nD) : V m c main_v1 = (shapeCast S1x64 (argB m c) shapeCasts_S64_S1x64 : FVec Ideal S1x64 .f32) := by
  show StableHlo.after hostOps0 (fun b => m (c, b)) (Proc.devRef .tc main_v1) = _
  after_results
  rfl

theorem entry_w (c : Dev nD) (k : Fin 2048) (e : Fin 64) : (V m c main_v0 : FVec Ideal S2048x64 .bf16) (ix2 k e) = argW m c (ix2 k e) := by
  rw [V_main_v0]
  pointwise

theorem entry_b (c : Dev nD) (e : Fin 64) : (V m c main_v1 : FVec Ideal S1x64 .f32) (ix2 0 e) = argB m c (ix1 e) := by
  rw [V_main_v1]
  pointwise

/-- Where each window stands at each grid point. -/
theorem idx : ∀ t : Fin cfg0.N, win0_0.index t = ![t.val / 2, t.val % 2, 0] ∧ win0_1.index t = ![0, 0] ∧ win0_2.index t = ![0, 0]
    ∧ win0_3.index t = ![t.val / 2, 0, t.val % 2] ∧ win0_4.index t = ![t.val / 2, 0, t.val % 2] ∧ win0_5.index t = ![0, 0] :=
  (by decide +kernel : ∀ t : Fin grid0.N, _)

/-- A block's logits are the logits of the tokens the block holds. -/
theorem blk_logit (c : Dev nD) (t : Fin cfg0.N) (r : Fin 1024) (e : Fin 64) (g : Fin 4) (T : Fin 2048)
    (hg : g.val = t.val / 2) (hT : T.val = t.val % 2 * 1024 + r.val) :
    blkLogit (iblk m c 0 t) (iblk m c 1 t) (iblk m c 2 t) r e = logit (argX m c) (argW m c) (argB m c) g T e := by
  unfold blkLogit logit
  refine congrArg₂ (· + ·) (Finset.sum_congr rfl fun k _ => congrArg₂ (· * ·) ?_ ?_) ?_
  · blk_point [iblk, idx t]
  · exact Eq.trans (by blk_ext [iblk, idx t]) (entry_w m c k e)
  · exact Eq.trans (by blk_ext [iblk, idx t]) (entry_b m c e)

/-- What a point leaves as its block of logits, whichever case the point falls in. -/
theorem outs_logits (c : Dev nD) (t : Fin cfg0.N) :
    (outsAt0 m c t.val t.isLt).2.1 = k0_pay4 (F := Ideal) (iblk m c 0 t) (iblk m c 1 t) (iblk m c 2 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- What a point leaves as its block of probabilities. -/
theorem outs_probs (c : Dev nD) (t : Fin cfg0.N) :
    (outsAt0 m c t.val t.isLt).1 = k0_pay7 (F := Ideal) (iblk m c 0 t) (iblk m c 1 t) (iblk m c 2 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- A point's part of the loss is its block's. -/
theorem part_loss (c : Dev nD) (t : Fin cfg0.N) (i : S1x1.Idx) :
    k0_pay8 (F := Ideal) (iblk m c 0 t) (iblk m c 1 t) (iblk m c 2 t) i = blockLoss (argX m c) (argW m c) (argB m c) t.val := by
  have ht : t.val < 8 := lt_of_lt_of_eq t.isLt N_0
  rw [pay8_at]
  unfold blockLoss tokenLoss sumExp
  refine Finset.sum_congr rfl fun r _ => ?_
  have h : ∀ e, blkLogit (iblk m c 0 t) (iblk m c 1 t) (iblk m c 2 t) r e
      = logit (argX m c) (argW m c) (argB m c) ⟨t.val / 2 % 4, by omega⟩ ⟨t.val % 2 * 1024 + r.val, by omega⟩ e :=
    fun e => blk_logit m c t r e _ _ (Nat.mod_eq_of_lt (by omega)) rfl
  simp only [h]

/-- The running total after a point that is not the last: the parts of the blocks so far. -/
theorem outs_total (c : Dev nD) (i : S1x1.Idx) : ∀ (n : ℕ) (hn : n < cfg0.N), n < 7 →
    (outsAt0 m c n hn).2.2 i = ∑ s ∈ Finset.range (n + 1), blockLoss (argX m c) (argW m c) (argB m c) s
  | 0, hn, _ => by
    rw [outsAt0_A m c ⟨0, hn⟩ rfl (by dsimp only; omega)]
    frame_out
    rw [pay1_at, pay9_at, part_loss, zero_add, Finset.sum_range_one]
  | n + 1, hn, h7 => by
    rw [outsAt0_B m c ⟨n + 1, hn⟩ (by dsimp only; omega) (by dsimp only; omega)]
    frame_out
    rw [pay1_at, part_loss, Finset.sum_range_succ]
    exact congrArg (· + _) (outs_total c i n (Nat.lt_of_succ_lt hn) (by omega))

/-- What the last point leaves: the parts of all blocks, scaled. -/
theorem outs_last (c : Dev nD) (i : S1x1.Idx) (t : Fin cfg0.N) (ht : t.val = 7) :
    (outsAt0 m c t.val t.isLt).2.2 i
      = totalLoss (argX m c) (argW m c) (argB m c) * Ideal.ofBits .f32 0x39000000#32 := by
  rw [outsAt0_C m c t (by omega) (by omega)]
  frame_out
  rw [pay2_at, pay1_at, part_loss, ← sum_blockLoss, outs_total m c i (t.val - 1) _ (by omega), ht, Finset.sum_range_succ _ 7]

/-- The array of logits after the run: group, expert, token. -/
theorem arr_logits (c : Dev nD) : (dats m 0 c).arrAt 4 (cfgs 0).N
    = ((fun i => logit (argX m c) (argW m c) (argB m c) (i 0) (i 2) (i 1)) : FVec Ideal S4x64x2048 .f32) := by
  refine (dats m 0 c).arrAt_eq_of_covers 4 _ (by decide +kernel) fun t _ y => ?_
  blk_simp
  rw [after0_4, outs_logits]
  obtain ⟨y0, y1, y2, rfl⟩ : ∃ (y0 : Fin 1) (y1 : Fin 64) (y2 : Fin 1024), y = (ix3 y0 y1 y2 : S1x64x1024.Idx) := ⟨y 0, y 1, y 2, eq_ix3 y⟩
  obtain rfl : y0 = 0 := Subsingleton.elim _ _
  rw [pay4_at]
  have he : (win0_4.blk t).view.emb (ix3 0 y1 y2) 1 = y1 := Fin.ext (by blk_simp [idx t])
  rw [he]
  refine blk_logit m c t y2 y1 _ _ ?_ ?_
  · blk_simp [idx t]
    rfl
  · blk_simp [idx t]

/-- The array of probabilities after the run: group, expert, token. -/
theorem arr_probs (c : Dev nD) : (dats m 0 c).arrAt 3 (cfgs 0).N
    = ((fun i => prob (argX m c) (argW m c) (argB m c) (i 0) (i 2) (i 1)) : FVec Ideal S4x64x2048 .f32) := by
  refine (dats m 0 c).arrAt_eq_of_covers 3 _ (by decide +kernel) fun t _ y => ?_
  blk_simp
  rw [after0_3, outs_probs]
  obtain ⟨y0, y1, y2, rfl⟩ : ∃ (y0 : Fin 1) (y1 : Fin 64) (y2 : Fin 1024), y = (ix3 y0 y1 y2 : S1x64x1024.Idx) := ⟨y 0, y 1, y 2, eq_ix3 y⟩
  obtain rfl : y0 = 0 := Subsingleton.elim _ _
  rw [pay7_at]
  have he : (win0_3.blk t).view.emb (ix3 0 y1 y2) 1 = y1 := Fin.ext (by blk_simp [idx t])
  rw [he]
  have h : ∀ e, blkLogit (iblk m c 0 t) (iblk m c 1 t) (iblk m c 2 t) y2 e
      = logit (argX m c) (argW m c) (argB m c) ((win0_3.blk t).view.emb (ix3 0 y1 y2) 0) ((win0_3.blk t).view.emb (ix3 0 y1 y2) 2) e := by
    intro e
    refine blk_logit m c t y2 e _ _ ?_ ?_
    · blk_simp [idx t]
      rfl
    · blk_simp [idx t]
  simp only [h]
  rfl

/-- The array of the loss after the run: one number. -/
theorem arr_loss (c : Dev nD) : (dats m 0 c).arrAt 5 (cfgs 0).N
    = ((fun _ => totalLoss (argX m c) (argW m c) (argB m c) * Ideal.ofBits .f32 0x39000000#32) : FVec Ideal S1x1 .f32) := by
  refine (dats m 0 c).arrAt_eq_of_covers 5 _ (by decide +kernel) fun t hf y => ?_
  blk_simp
  have ht : t.val < 8 := lt_of_lt_of_eq t.isLt N_0
  have h7 := (flush0_5 t).mp hf
  rw [after0_5]
  exact outs_last m c _ t (by omega)

end Cert.KernelIdeal.Arrays
-- ==== Proof.Tail.lean ====
module

public import proofs.«01_k».proof.Proof.Arrays

@[expose] public section

set_option maxRecDepth 16384

noncomputable section

/-! The three results of the kernel's program: what the host operations after the kernel make of its arrays. -/

namespace Cert.KernelIdeal.Tail

open Idealize.ShloMosaic Idealize.ShloMosaic.Ideal Idealize.ShloMosaic.Pipeline Idealize.SL Idealize.SL.Sem Cert.KernelIdeal Cert.KernelIdeal.Gen
open Cert.KernelIdeal.Arrays Cert.Router

variable (m : (ℓ : Loc nD τ sig) → Buf (Elt Ideal) ℓ)

/-- Once the kernel is done, a window's buffer holds the window's array. -/
theorem kernel_array (c : Dev nD) (w : Fin 6) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

/-- The first result: the probabilities with the token axis before the expert axis. -/
theorem tail_probs (c : Dev nD) : Pipeline.afterTail₀ cfgs (dats m) 0 (V0 m) [hostOps1] c main_v3
    = ((fun i => prob (argX m c) (argW m c) (argB m c) (i 0) (i 1) (i 2)) : FVec Ideal S4x2048x64 .f32) := by
  unfold Pipeline.afterTail₀
  show StableHlo.after hostOps1 _ (Proc.devRef .tc main_v3) = _
  after_results
  refine (congrArg (fun a : FVec Ideal S4x64x2048 .f32 => (transpose S4x2048x64 [0, 2, 1] a transposes_S4x64x2048_S4x2048x64_0_2_1 : FVec Ideal S4x2048x64 .f32))
    ((kernel_array m c 3).trans (arr_probs m c))).trans ?_
  funext i
  pointwise

/-- The second result: the logits with the token axis before the expert axis. -/
theorem tail_logits (c : Dev nD) : Pipeline.afterTail₀ cfgs (dats m) 0 (V0 m) [hostOps1] c main_v4
    = ((fun i => logit (argX m c) (argW m c) (argB m c) (i 0) (i 1) (i 2)) : FVec Ideal S4x2048x64 .f32) := by
  unfold Pipeline.afterTail₀
  show StableHlo.after hostOps1 _ (Proc.devRef .tc main_v4) = _
  after_results
  refine (congrArg (fun a : FVec Ideal S4x64x2048 .f32 => (transpose S4x2048x64 [0, 2, 1] a transposes_S4x64x2048_S4x2048x64_0_2_1 : FVec Ideal S4x2048x64 .f32))
    ((kernel_array m c 4).trans (arr_logits m c))).trans ?_
  funext i
  pointwise

/-- The third result: the loss as one number. -/
theorem tail_loss (c : Dev nD) : Pipeline.afterTail₀ cfgs (dats m) 0 (V0 m) [hostOps1] c main_v5
    = ((fun _ => totalLoss (argX m c) (argW m c) (argB m c) * Ideal.ofBits .f32 0x39000000#32) : FVec Ideal S_ .f32) := by
  unfold Pipeline.afterTail₀
  show StableHlo.after hostOps1 _ (Proc.devRef .tc main_v5) = _
  after_results
  refine (congrArg (fun a : FVec Ideal S1x1 .f32 => (shapeCast S_ a shapeCasts_S1x1_S_ : FVec Ideal S_ .f32))
    ((kernel_array m c 5).trans (arr_loss m c))).trans ?_
  funext i
  pointwise

/-- The kernel's program runs, ends with the router's probabilities, logits and scaled loss, and leaves its arguments alone. -/
theorem run (ρ : Dev nD → PrngReg) :
    θ_run defs (onTc (τ := τ) (main (F := Ideal))) ⟨m, fun _ => 0, ρ⟩ fun r => ∀ c : Dev nD,
      r.2.mem ((c.tc : Thread nD τ).loc main_v3)
          = ((fun i => prob (argX m c) (argW m c) (argB m c) (i 0) (i 1) (i 2)) : FVec Ideal S4x2048x64 .f32)
      ∧ r.2.mem ((c.tc : Thread nD τ).loc main_v4)
          = ((fun i => logit (argX m c) (argW m c) (argB m c) (i 0) (i 1) (i 2)) : FVec Ideal S4x2048x64 .f32)
      ∧ r.2.mem ((c.tc : Thread nD τ).loc main_v5)
          = ((fun _ => totalLoss (argX m c) (argW m c) (argB m c) * Ideal.ofBits .f32 0x39000000#32) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h.1 c).2 main_v3 (Pipeline.mem_restRefs_of main_v3 (by decide) (by decide))).trans (tail_probs m c),
      ((h.1 c).2 main_v4 (Pipeline.mem_restRefs_of main_v4 (by decide) (by decide))).trans (tail_logits m c),
      ((h.1 c).2 main_v5 (Pipeline.mem_restRefs_of main_v5 (by decide) (by decide))).trans (tail_loss m c), h.2 c⟩)
    (θ_run_and (run_main m ρ) (unchanged m ρ))

end Cert.KernelIdeal.Tail
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.PreFinite
public import proofs.«01_k».proof.Proof.Tail
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem
open Cert.KernelIdeal.Arrays Cert.KernelIdeal.Tail Cert.ReferenceIdeal.Read Cert.ReferenceIdeal.RefValue

/-- The reference runs, leaves its arguments alone and every semaphore at zero. -/
theorem reference_quiescent : Cert.quiescent_ReferenceIdeal := by
  intro m g _
  exact (θ_run _ _ _).mono (fun r h => ⟨fun c => (h c).2.2.2, sem_eq_zero_of_no_sems rfl r.2⟩) (Cert.ReferenceIdeal.Value.run m g)

/-- The precondition, read at one device. -/
theorem finite_args (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    Cert.ReferenceIdeal.RefValue.Finite (argX m c) (argW m c) (argB m c) :=
  Cert.PreFinite.finite_of_pre _ _ _ _ _ (h c).1 (h c).2.1 (h c).2.2

/-- On finite arguments the kernel's three results are the reference's. -/
theorem same_results : Cert.algebraic_KernelIdeal_ReferenceIdeal_pre_finite_inputs := by
  pair_intro
  · run_from Cert.KernelIdeal.Tail.run m g
  · run_from Cert.ReferenceIdeal.Value.run m' g'
    · exact (val_main_v14_eq (F := Ideal) (argX m c) (argW m c) (argB m c)).trans (funext fun i => by
        idx_vars i
        exact ref_prob (finite_args m hpre c) _ _ _)
    · exact (val_main_v3_eq (F := Ideal) (argX m c) (argW m c) (argB m c)).trans (funext fun i => by
        idx_vars i
        exact logit_at _ _ _ _ _ _)
    · rw [val_main_v29_eq, (hagree c).1, (hagree c).2.1, (hagree c).2.2.1]
      exact funext fun i => ref_loss (finite_args m hpre c) i

/-- Everything claimed. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g, fun m g _ => Cert.KernelIdeal.Gen.frame m g,
    fun m g _ => Cert.KernelIdeal.Gen.frame m g, reference_quiescent, fun m g _ => reference_quiescent m g trivial,
    trivial, same_results⟩

end Cert.Proof

end
